-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000 : Shape := ⟨1, ![320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S64x10000 : Shape := ⟨2, ![64, 10000]⟩
abbrev S10000x64 : Shape := ⟨2, ![10000, 64]⟩
abbrev S1x64 : Shape := ⟨2, ![1, 64]⟩
abbrev S5120x128 : Shape := ⟨2, ![5120, 128]⟩
abbrev S64x5120 : Shape := ⟨2, ![64, 5120]⟩

abbrev nBuf : Space → Nat
  | .hbm => 26
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S64x10000, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .local _ .vmem, ⟨0, _⟩ => ⟨S5120x128, .f32⟩
  | .local _ .vmem, ⟨1, _⟩ => ⟨S5120x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S64x5120, .f32⟩
  | .local _ .vmem, ⟨8, _⟩ => ⟨S64x5120, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩
abbrev S10000x64 : Shape := ⟨2, ![10000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S10000x128, .f32⟩
  | .hbm, ⟨52, _⟩ => ⟨S10000x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S1x128, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S_, .f32⟩
  | .hbm, ⟨71, _⟩ => ⟨S10000x128, .f32⟩
  | .hbm, ⟨72, _⟩ => ⟨S10000x128, .f32⟩
  | .hbm, ⟨73, _⟩ => ⟨S10000x64, .f32⟩
  | .hbm, ⟨74, _⟩ => ⟨S1x64, .f32⟩
  | .hbm, ⟨75, _⟩ => ⟨S10000x64, .f32⟩
  | .hbm, ⟨76, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call0_cst : Ref sig .tc := ⟨.hbm, 70, rfl⟩
abbrev main_call0_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Proof.Whole.lean ====
/-
  Loads and stores of a whole buffer, for a memref known to be one: a load through the rectangle of the buffer's own
  sizes at offset zero reads the contents, and an unmasked store through it leaves exactly what was stored.
-/
module

public import Idealize.ShloMosaic.Lib.Pipeline.FrameSuffix
public import Idealize.ShloMosaic.Lib.Tactic

@[expose] public section

namespace Cert.Whole

open Idealize.ShloMosaic

variable {sig : RefSig} {κ : Kind} {sp : Space} {s : Shape} {e : EltTy} {M : Memref sig κ sp s e}

/-- Two zero offsets, as a function. -/
theorem offsets_zero : (![0, 0] : Fin 2 → ℕ) = fun _ => 0 := by
  ext a; fin_cases a <;> rfl

/-- A load of the whole buffer is the buffer read. -/
theorem load_all (Val : EltTy → Type) (hM : M.IsWhole) {off : Fin s.rank → ℕ} (h0 : off = fun _ => 0)
    (inb : ∀ a, off a + s.size a ≤ s.size a) (f : M.view.ty.Contents Val) :
    M.view.readAt Val (Rect.unit off s.size inb).toLoadRect f = M.view.read Val f := by
  obtain ⟨b, rfl, rfl, rfl, hb⟩ := hM
  cases hb
  exact Memref.readAt_unit_zero Val b h0 inb f

/-- After an unmasked store over the whole buffer it reads as the stored block. -/
theorem read_store_all (Val : EltTy → Type) (hM : M.IsWhole) {off : Fin s.rank → ℕ} (h0 : off = fun _ => 0)
    (inb : ∀ a, off a + s.size a ≤ s.size a) (f : M.view.ty.Contents Val) (w : s.Idx → Val e) :
    M.view.read Val ((M.access (Rect.unit off s.size inb) : View sig κ _ _ _).write Val f w Finset.univ) = w := by
  obtain ⟨b, rfl, rfl, rfl, hb⟩ := hM
  cases hb
  exact Memref.write_access_unit_zero_univ Val b h0 inb f w

end Cert.Whole
-- ==== Proof.KernelFrame.lean ====
/-
  The kernel as it runs, at any float values: it terminates, its seventeen argument arrays end unchanged and every
  semaphore counter ends at zero. The last block of rows overhangs the arrays, so the rows of `x` past the end are
  words nothing names; what the body leaves in the output's buffer is therefore not stated here, only that the
  buffer is held (the output window is forgotten).
-/
module

public import proofs.«01_k».proof.Proof.KernelBody

@[expose] public section

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A zero, used wherever a buffer's contents are not stated. -/
abbrev z : Elt F .f32 := Scalar.ofBits .f32 0#32

/-- The proof data: the arrays as the region is entered; after a body each input's buffer at its block (that of `x`
    filled out past the array's end), the output's unstated. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => z) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => z
  Φ _ := Pipeline.ΦA spec0 c
  q _ := fullShare
  owed _ := 0

/-- The window whose contents are not stated: the output's. -/
def forgotten : Fin cfg0.W → Bool := fun w => decide (w = 6)

/-- `x`'s buffer as the body finds it: just fetched, its block on the rows inside the array and `d` past the end. -/
theorem before_x (c : Dev nD) (t : Fin cfg0.N) (d) :
    (dats m 0 c).before (0 : Fin 7) t d = win0_0.fill (grid0.coords t) d (iblk m c 0 t) := by
  unfold Dat.before; rw [if_pos (fetch0_0 t)]; rfl

/-- The body table's row at a point is the body at that point's buffers. -/
theorem row (t : Fin cfg0.N) : defs₀ (F := F) .tc cfg0.body (cfg0.bodyArgs t (cfg0.slots t)) = bodyAt0 t := by
  unfold defs₀; rw [Defs.onTc_tc]

/-- The body at every point, the output's contents left open. -/
theorem obligation (c : Dev nD) :
    BodyObligationLoose (dats m 0 c) (defs₀ (F := F)) variants () Set.univ forgotten := fun t => by
  rw [bigSep_W0, bigSep_W0, row]
  simp only [show forgotten 0 = false from rfl, show forgotten 1 = false from rfl, show forgotten 2 = false from rfl,
    show forgotten 3 = false from rfl, show forgotten 4 = false from rfl, show forgotten 5 = false from rfl,
    show forgotten 6 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_x m c t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5]
  iapply (body_run (F := F) c Set.univ (grid0.coords t) _ _ _ _ _ _ _ _ _ _ _ _ _ _
    (win0_0.fill (grid0.coords t) d0 (iblk m c 0 t)) (iblk m c 1 t) (iblk m c 2 t) (iblk m c 3 t) (iblk m c 4 t)
    (iblk m c 5 t) d6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => z) (iblk m c 0 t))))
    rw [win0_0.cut_fill]
  isplitl [H1]; · iexact H1
  isplitl [H2]; · iexact H2
  isplitl [H3]; · iexact H3
  isplitl [H4]; · iexact H4
  isplitl [H5]; · iexact H5
  iexists _; iexact H6

/-- The buffers the operations after the kernel write. -/
def written : Finset (Ref sig .tc) := {main_call0_v5, main_call0_v6, main_call0_v7, main_v0}

theorem writes_written : ∀ ops ∈ ([hostOps1] : List (List (HloOp τ sig (Elt F)))), ∀ op ∈ ops, ∀ b : Ref sig .tc,
    Proc.devRef .tc b ∈ op.writes → b ∈ written := by
  intro ops h op hop b hb
  rw [List.mem_singleton] at h; subst h
  simp only [hostOps1, List.mem_cons, List.mem_nil_iff, or_false] at hop
  rcases hop with rfl | rfl | rfl | rfl <;>
    (simp only [StableHlo.unary_writes, StableHlo.binary_writes, Finset.mem_singleton] at hb
     by_contra hw
     refine StableHlo.devRef_ne_of_ne ?_ hb
     rintro rfl; exact hw (by decide))

/-- An array no window stages and no later operation writes ends as it was when the region was entered. -/
theorem rest_of {r : PUnit × MemSt nD τ sig (Elt F)}
    (h : Pipeline.RDat.FramePostR cfg0 (fun c => (dats m 0 c).toRForget forgotten) written (V m) r) (c : Dev nD)
    (b : Ref sig .tc) (hb : b ∈ Pipeline.restRefs sig spec0) (hw : b ∉ written) :
    r.2.mem ((c.tc : Thread nD τ).loc b) = V m c b :=
  (h c).2 b (Finset.mem_sdiff.mpr ⟨hb, hw⟩)

/-- An input window's array ends as it was when the region was entered. -/
theorem input_of {r : PUnit × MemSt nD τ sig (Elt F)}
    (h : Pipeline.RDat.FramePostR cfg0 (fun c => (dats m 0 c).toRForget forgotten) written (V m) r) (c : Dev nD)
    (w : Fin cfg0.W) (hin : (cfg0.win w).isOut = false) (hf : forgotten w = false) :
    r.2.mem ((c.tc : Thread nD τ).loc (Pipeline.arrRef spec0 w)) = V m c (Pipeline.arrRef spec0 w) :=
  ((Dat.toRForget_arrAt_iff (dat := dats m 0 c) hf cfg0.N _).mp ((h c).1 w)).trans ((dats m 0 c).arrAt_in w hin _)

set_option backward.isDefEq.respectTransparency.types false in
/-- The run: from any memory with every counter at zero the program terminates, and at every final state its
    arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  Pipeline.θ_run_frame_around_T_forget cfgs (dats m) 0 launch0 defs₀ variants forgotten written m ρ main
    (hbody := obligation m) (hshare := fun c => (dats m 0 c).share_full fun _ => rfl) (howed := fun _ _ => rfl)
    (V₀ := V0 m) (opss := [hostOps1]) (hsub := sfx_sub) (hfresh := sfx_fresh) (hkeep := sfx_keeps) (hT := writes_written)
    (hmain := hmain m variants) (hA := fun _ _ => rfl) (hΦ := fun _ _ => rfl) (Q' := _)
    (hQ' := fun _ ⟨h, hs⟩ => ⟨fun c => ⟨(input_of m h c 0 rfl rfl).trans (V_main_arg0 m c),
      (rest_of m h c main_arg1 (Pipeline.mem_restRefs_of main_arg1 (by decide) (by decide)) (by decide)).trans (V_main_arg1 m c),
      (rest_of m h c main_arg2 (Pipeline.mem_restRefs_of main_arg2 (by decide) (by decide)) (by decide)).trans (V_main_arg2 m c),
      (input_of m h c 1 rfl rfl).trans (V_main_arg3 m c),
      (rest_of m h c main_arg4 (Pipeline.mem_restRefs_of main_arg4 (by decide) (by decide)) (by decide)).trans (V_main_arg4 m c),
      (rest_of m h c main_arg5 (Pipeline.mem_restRefs_of main_arg5 (by decide) (by decide)) (by decide)).trans (V_main_arg5 m c),
      (rest_of m h c main_arg6 (Pipeline.mem_restRefs_of main_arg6 (by decide) (by decide)) (by decide)).trans (V_main_arg6 m c),
      (rest_of m h c main_arg7 (Pipeline.mem_restRefs_of main_arg7 (by decide) (by decide)) (by decide)).trans (V_main_arg7 m c),
      (rest_of m h c main_arg8 (Pipeline.mem_restRefs_of main_arg8 (by decide) (by decide)) (by decide)).trans (V_main_arg8 m c),
      (rest_of m h c main_arg9 (Pipeline.mem_restRefs_of main_arg9 (by decide) (by decide)) (by decide)).trans (V_main_arg9 m c),
      (rest_of m h c main_arg10 (Pipeline.mem_restRefs_of main_arg10 (by decide) (by decide)) (by decide)).trans (V_main_arg10 m c),
      (input_of m h c 3 rfl rfl).trans (V_main_arg11 m c),
      (rest_of m h c main_arg12 (Pipeline.mem_restRefs_of main_arg12 (by decide) (by decide)) (by decide)).trans (V_main_arg12 m c),
      (rest_of m h c main_arg13 (Pipeline.mem_restRefs_of main_arg13 (by decide) (by decide)) (by decide)).trans (V_main_arg13 m c),
      (rest_of m h c main_arg14 (Pipeline.mem_restRefs_of main_arg14 (by decide) (by decide)) (by decide)).trans (V_main_arg14 m c),
      (input_of m h c 5 rfl rfl).trans (V_main_arg15 m c),
      (rest_of m h c main_arg16 (Pipeline.mem_restRefs_of main_arg16 (by decide) (by decide)) (by decide)).trans (V_main_arg16 m c)⟩, hs⟩)

end Cert.KernelProof

end
-- ==== Proof.Row.lean ====
/-
  What the kernel computes from one row of `x`, over the extended reals.
-/
module

public import Idealize.ShloMosaic.Lib.Pointwise
public import Idealize.ShloMosaic.Lib.ValueIdx
public import Idealize.ShloMosaic.Lib.IdealHost

@[expose] public section

noncomputable section

namespace Cert.Row

open Idealize.ShloMosaic

/-- One half. -/
abbrev half : EReal := ((1 / 2 : ℝ) : EReal)

/-- One hidden unit as the kernel computes it from a row of `x`: the tanh form of `1 - σ`, without its factor one
    half, times the positive part of the candidate. -/
def unit (x wz : Fin 128 → EReal) (bz : EReal) (wh : Fin 128 → EReal) (bh : EReal) : EReal :=
  (1 - Ideal.tanh ((∑ j, x j * (wz j * half)) + bz * half)) * max (Ideal.tanh ((∑ j, x j * wh j) + bh)) 0

/-- One output of the kernel's block from a row of `x`, before the last bias. -/
def out (x : Fin 128 → EReal) (Wz : Fin 128 → Fin 128 → EReal) (bz : Fin 128 → EReal) (Wh : Fin 128 → Fin 128 → EReal)
    (bh : Fin 128 → EReal) (wl : Fin 128 → EReal) : EReal :=
  ∑ k, wl k * half * unit x (fun j => Wz j k) (bz k) (fun j => Wh j k) (bh k)

/-- One hidden unit as the reference computes it: the positive part of `1 - σ` times the candidate. -/
def refUnit (x wz : Fin 128 → EReal) (bxz bhz : EReal) (wh : Fin 128 → EReal) (bxh bhh : EReal) : EReal :=
  max ((1 - Ideal.div 1 (1 + Ideal.exp (-((∑ j, x j * wz j) + bxz + bhz))))
    * Ideal.tanh ((∑ j, x j * wh j) + bxh + bhh)) 0

/-- One output of the reference from a row of `x`, before the last bias. -/
def refOut (x : Fin 128 → EReal) (Wz : Fin 128 → Fin 128 → EReal) (bxz bhz : Fin 128 → EReal)
    (Wh : Fin 128 → Fin 128 → EReal) (bxh bhh : Fin 128 → EReal) (wl : Fin 128 → EReal) : EReal :=
  ∑ k, refUnit x (fun j => Wz j k) (bxz k) (bhz k) (fun j => Wh j k) (bxh k) (bhh k) * wl k

/-- The word `0x3F000000` is one half. -/
theorem ofBits_half : Ideal.ofBits .f32 0x3F000000#32 = half := by
  simp [Ideal.ofBits, Ideal.ieee, -EReal.coe_mul]; norm_num

end Cert.Row

end
-- ==== Proof.Equation.lean ====
/-
  The kernel's formula and the reference's agree, at every extended real: `1 - σ p` is one half of `1 - tanh (p / 2)`,
  at the infinities too; one half distributes over sums; a nonnegative factor passes through the positive part.
-/
module

public import proofs.«01_k».proof.Proof.Row

@[expose] public section

noncomputable section

namespace Cert.Row

open Idealize.ShloMosaic

/-- One half distributes over a sum of two. -/
theorem add_mul_half (a b : EReal) : (a + b) * half = a * half + b * half :=
  EReal.right_distrib_of_nonneg_of_ne_top (EReal.coe_nonneg.mpr (by norm_num)) (EReal.coe_ne_top _) a b

/-- One half distributes over a finite sum. -/
theorem sum_mul_half {ι : Type} (s : Finset ι) (f : ι → EReal) : (∑ i ∈ s, f i) * half = ∑ i ∈ s, f i * half := by
  classical
  induction s using Finset.induction_on with
  | empty => simp
  | insert i s hi ih => rw [Finset.sum_insert hi, Finset.sum_insert hi, add_mul_half, ih]

/-- On the reals: one minus the logistic function is one half of one minus the hyperbolic tangent of the half. -/
theorem real_gate (p : ℝ) : 1 - (1 + Real.exp (-p))⁻¹ = 1 / 2 * (1 - Real.tanh (p * (1 / 2))) := by
  have h1 : Real.exp (-p) = Real.exp (-(p * (1 / 2))) * Real.exp (-(p * (1 / 2))) := by
    rw [← Real.exp_add]; congr 1; ring
  have h2 : Real.exp (p * (1 / 2)) * Real.exp (-(p * (1 / 2))) = 1 := by rw [← Real.exp_add]; simp
  have hb := Real.exp_pos (-(p * (1 / 2)))
  have ha := Real.exp_pos (p * (1 / 2))
  rw [Real.tanh_eq_sinh_div_cosh, Real.sinh_eq, Real.cosh_eq, h1]
  generalize Real.exp (-(p * (1 / 2))) = b at *
  generalize Real.exp (p * (1 / 2)) = a at *
  have hab : (1 : ℝ) + b * b ≠ 0 := by positivity
  have hab' : a + b ≠ 0 := by positivity
  field_simp
  linear_combination (2 * b) * h2

/-- The same over the extended reals, as the two programs compute them. -/
theorem gate (p : EReal) : 1 - Ideal.div 1 (1 + Ideal.exp (-p)) = half * (1 - Ideal.tanh (p * half)) := by
  change 1 - Ideal.logistic p = half * (1 - Ideal.tanh (p * half))
  have hpos : (0 : EReal) < half := EReal.coe_pos.mpr (by norm_num)
  induction p with
  | bot =>
    rw [Ideal.logistic_bot, EReal.bot_mul_of_pos hpos, Ideal.tanh_bot]
    rw [show (1 : EReal) = ((1 : ℝ) : EReal) from rfl, show (0 : EReal) = ((0 : ℝ) : EReal) from rfl]
    norm_cast
    norm_num
  | top =>
    rw [Ideal.logistic_top, EReal.top_mul_of_pos hpos, Ideal.tanh_top]
    rw [show (1 : EReal) = ((1 : ℝ) : EReal) from rfl, ← EReal.coe_sub]
    simp
  | coe p =>
    rw [Ideal.logistic_coe, ← EReal.coe_mul, Ideal.tanh_coe, ← EReal.coe_one, ← EReal.coe_sub, ← EReal.coe_sub,
      ← EReal.coe_mul, real_gate]

/-- The kernel's factor is nonnegative: the hyperbolic tangent is at most one. -/
theorem one_sub_tanh_nonneg (p : EReal) : 0 ≤ 1 - Ideal.tanh p := by
  induction p with
  | bot =>
    rw [Ideal.tanh_bot, show (1 : EReal) = ((1 : ℝ) : EReal) from rfl]
    norm_cast
  | top => rw [Ideal.tanh_top, show (1 : EReal) = ((1 : ℝ) : EReal) from rfl, ← EReal.coe_sub]; simp
  | coe p =>
    rw [Ideal.tanh_coe, ← EReal.coe_one, ← EReal.coe_sub]
    exact EReal.coe_nonneg.mpr (sub_nonneg.mpr (Real.tanh_lt_one p).le)

/-- A nonnegative factor passes through the positive part. -/
theorem max_mul_zero {u : EReal} (hu : 0 ≤ u) (h : EReal) : max (u * h) 0 = u * max h 0 := by
  rcases le_total h 0 with h0 | h0
  · rw [max_eq_right h0, mul_zero, max_eq_right (EReal.mul_nonpos_iff.mpr (Or.inl ⟨hu, h0⟩))]
  · rw [max_eq_left h0, max_eq_left (mul_nonneg hu h0)]

/-- One hidden unit: the reference's is one half of the kernel's. -/
theorem refUnit_eq (x wz : Fin 128 → EReal) (bxz bhz : EReal) (wh : Fin 128 → EReal) (bxh bhh : EReal) :
    refUnit x wz bxz bhz wh bxh bhh = half * unit x wz (bxz + bhz) wh (bxh + bhh) := by
  have hsum : (∑ j, x j * (wz j * half)) + (bxz + bhz) * half = ((∑ j, x j * wz j) + bxz + bhz) * half := by
    rw [add_assoc, add_mul_half (∑ j, x j * wz j), sum_mul_half]
    simp only [mul_assoc]
  have hhalf : (0 : EReal) ≤ half := EReal.coe_nonneg.mpr (by norm_num)
  unfold refUnit unit
  rw [hsum, gate, max_mul_zero (mul_nonneg hhalf (one_sub_tanh_nonneg _)), mul_assoc, add_assoc (∑ j, x j * wh j)]

/-- One output: the kernel's and the reference's are equal. -/
theorem out_eq (x : Fin 128 → EReal) (Wz : Fin 128 → Fin 128 → EReal) (bxz bhz : Fin 128 → EReal)
    (Wh : Fin 128 → Fin 128 → EReal) (bxh bhh : Fin 128 → EReal) (wl : Fin 128 → EReal) :
    out x Wz (fun k => bxz k + bhz k) Wh (fun k => bxh k + bhh k) wl = refOut x Wz bxz bhz Wh bxh bhh wl := by
  unfold out refOut
  refine Finset.sum_congr rfl fun k _ => ?_
  rw [refUnit_eq, mul_assoc, mul_comm]

end Cert.Row

end
-- ==== Proof.RefValue.lean ====
/-
  What the reference computes, at the extended reals, at one row and one output feature. The hidden state it starts
  from is zero, so its products with the recurrent weights vanish and with them the reset gate.
-/
module

public import proofs.«01_k».proof.Proof.Row
public import proofs.«01_k».proof.Proof.Gen.ReferenceIdeal.Read

@[expose] public section

noncomputable section

namespace Cert.ReferenceProof

open Cert.ReferenceIdeal Cert.ReferenceIdeal.Gen
open Idealize.ShloMosaic

set_option maxRecDepth 16384 in
/-- The reference's result at row `n` and output feature `o`. -/
theorem result_apply (x : Vec Ideal S10000x128 .f32) (wxz : Vec Ideal S128x128 .f32) (bxz : Vec Ideal S128 .f32)
    (whz : Vec Ideal S128x128 .f32) (bhz : Vec Ideal S128 .f32) (wxr : Vec Ideal S128x128 .f32) (bxr : Vec Ideal S128 .f32)
    (whr : Vec Ideal S128x128 .f32) (bhr : Vec Ideal S128 .f32) (wxh : Vec Ideal S128x128 .f32) (bxh : Vec Ideal S128 .f32)
    (whh : Vec Ideal S128x128 .f32) (bhh : Vec Ideal S128 .f32) (wl : Vec Ideal S128x64 .f32) (bl : Vec Ideal S64 .f32)
    (n : Fin 10000) (o : Fin 64) :
    Read.val_main_v51 (F := Ideal) x wxz bxz whz bhz wxr bxr whr bhr wxh bxh whh bhh wl bl (ix2 n o)
      = Row.refOut (fun j => x (ix2 n j)) (fun j k => wxz (ix2 j k)) (fun k => bxz (ix1 k)) (fun k => bhz (ix1 k))
          (fun j k => wxh (ix2 j k)) (fun k => bxh (ix1 k)) (fun k => bhh (ix1 k)) (fun k => wl (ix2 k o)) + bl (ix1 o) := by
  unfold Row.refOut Row.refUnit
  pointwise [Read.val_main_cst, Read.val_main_v0, Read.val_main_v1, Read.val_main_v2, Read.val_main_v3, Read.val_main_v4,
    Read.val_main_v5, Read.val_main_v6, Read.val_main_v7, Read.val_main_v8, Read.val_main_v9, Read.val_main_v10,
    Read.val_main_v11, Read.val_main_cst_0, Read.val_main_v12, Read.val_main_v13, Read.val_main_cst_1,
    Read.val_main_v14, Read.val_main_v15, Read.val_main_v16, Read.val_main_v17, Read.val_main_v18, Read.val_main_v19,
    Read.val_main_v20, Read.val_main_v21, Read.val_main_v22, Read.val_main_v23, Read.val_main_v24, Read.val_main_v25,
    Read.val_main_v26, Read.val_main_cst_2, Read.val_main_v27, Read.val_main_v28, Read.val_main_cst_3,
    Read.val_main_v29, Read.val_main_v30, Read.val_main_v31, Read.val_main_v32, Read.val_main_v33, Read.val_main_v34,
    Read.val_main_v35, Read.val_main_v36, Read.val_main_v37, Read.val_main_v38, Read.val_main_v39, Read.val_main_v40,
    Read.val_main_v41, Read.val_main_v42, Read.val_main_cst_4, Read.val_main_v43, Read.val_main_v44, Read.val_main_v45,
    Read.val_main_v46, Read.val_main_call0_cst, Read.val_main_call0_v0, Read.val_main_v47, Read.val_main_v48,
    Read.val_main_v49, Read.val_main_v50, Read.val_main_v51]
  simp only [zero_mul, mul_zero, Finset.sum_const_zero, add_zero, zero_add]

end Cert.ReferenceProof

end
-- ==== Proof.IdealBody.lean ====
/-
  One run of the kernel body, at any float values: from seven staging buffers held whole it ends with the six inputs
  unchanged and the output's buffer holding the payload of the six.
-/
module

public import proofs.«01_k».proof.Proof.Whole
public import proofs.«01_k».proof.Proof.Gen.KernelIdeal.Skeleton
public import proofs.«01_k».proof.Proof.Gen.KernelIdeal.Frame

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The program runs no variant of any body. -/
abbrev variants : Variants := Variants.none

set_option maxRecDepth 16384 in
/-- The body on any seven whole staging buffers: it reads the six inputs and overwrites the seventh with the payload. -/
theorem body_run (c : Dev nD) (E : Set ℕ) (i : grid0.Coords)
    (x : Memref sig .tc .vmem S5120x128 .f32) (hx : x.IsWhole) (wz : Memref sig .tc .vmem S128x128 .f32) (hwz : wz.IsWhole)
    (bz : Memref sig .tc .vmem S1x128 .f32) (hbz : bz.IsWhole) (wh : Memref sig .tc .vmem S128x128 .f32) (hwh : wh.IsWhole)
    (bh : Memref sig .tc .vmem S1x128 .f32) (hbh : bh.IsWhole) (wl : Memref sig .tc .vmem S128x64 .f32) (hwl : wl.IsWhole)
    (o : Memref sig .tc .vmem S64x5120 .f32) (ho : o.IsWhole)
    (X : S5120x128.Idx → Elt F .f32) (Wz : S128x128.Idx → Elt F .f32) (Bz : S1x128.Idx → Elt F .f32)
    (Wh : S128x128.Idx → Elt F .f32) (Bh : S1x128.Idx → Elt F .f32) (Wl : S128x64.Idx → Elt F .f32)
    (O : S64x5120.Idx → Elt F .f32) (K : PUnit → sProp 𝕄) :
    iprop((owns (c : Thread nD τ) x fullShare X ∗ owns (c : Thread nD τ) wz fullShare Wz
            ∗ owns (c : Thread nD τ) bz fullShare Bz ∗ owns (c : Thread nD τ) wh fullShare Wh
            ∗ owns (c : Thread nD τ) bh fullShare Bh ∗ owns (c : Thread nD τ) wl fullShare Wl
            ∗ owns (c : Thread nD τ) o fullShare O)
          ∗ (iprop(owns (c : Thread nD τ) x fullShare X ∗ owns (c : Thread nD τ) wz fullShare Wz
            ∗ owns (c : Thread nD τ) bz fullShare Bz ∗ owns (c : Thread nD τ) wh fullShare Wh
            ∗ owns (c : Thread nD τ) bh fullShare Bh ∗ owns (c : Thread nD τ) wl fullShare Wl
            ∗ owns (c : Thread nD τ) o fullShare (k0_pay1 X Wz Bz Wh Bh Wl)) -∗ K ⟨⟩))
      ⊢ wp frame (wpE (defs₀ (F := F)) variants c none) E
          (cc0__fused_gru_kernel i x hx wz hwz bz hbz wh hwh bh hbh wl hwl o ho) K := by
  rw [cc0__fused_gru_kernel_eq_skeleton]; unfold cc0__fused_gru_kernel_skel owns
  simp only [Prog.lift, Prog.bind_op, Prog.bind_ret, hx.set_eq_univ, hwz.set_eq_univ, hbz.set_eq_univ, hwh.set_eq_univ, hbh.set_eq_univ, hwl.set_eq_univ, ho.set_eq_univ]
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, Hk⟩
  sl_steps
  iapply Hk
  rw [Whole.load_all (Elt F) hx Whole.offsets_zero, Whole.load_all (Elt F) hwz Whole.offsets_zero,
    Whole.load_all (Elt F) hbz Whole.offsets_zero, Whole.load_all (Elt F) hwh Whole.offsets_zero,
    Whole.load_all (Elt F) hbh Whole.offsets_zero, Whole.load_all (Elt F) hwl Whole.offsets_zero, e0, e1, e2, e3, e4, e5]
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists (o.access (Rect.unit ![0, 0] S64x5120.size inb_S64x5120_S64x5120_0_0) : View sig .tc _ _ _).write (Elt F) f6
    (k0_pay1 X Wz Bz Wh Bh Wl) Finset.univ
  isplitr
  · ipureintro; exact Whole.read_store_all (Elt F) ho Whole.offsets_zero _ f6 _
  iexact H6

end Cert.KernelIdealProof

end
-- ==== Proof.BlockValue.lean ====
/-
  What one block of the kernel computes, at the extended reals: column `r` of the block depends on row `r` of the
  block of `x` alone.
-/
module

public import proofs.«01_k».proof.Proof.Row
public import proofs.«01_k».proof.Proof.Gen.KernelIdeal.Skeleton

@[expose] public section

noncomputable section

namespace Cert.KernelIdealProof

open Cert.KernelIdeal Cert.KernelIdeal.Gen
open Idealize.ShloMosaic

/-- The payload at output feature `o` and row `r`. -/
theorem payload_apply (X : Vec Ideal S5120x128 .f32) (Wz : Vec Ideal S128x128 .f32) (Bz : Vec Ideal S1x128 .f32)
    (Wh : Vec Ideal S128x128 .f32) (Bh : Vec Ideal S1x128 .f32) (Wl : Vec Ideal S128x64 .f32) (o : Fin 64) (r : Fin 5120) :
    k0_pay1 X Wz Bz Wh Bh Wl (ix2 o r)
      = Row.out (fun j => X (ix2 r j)) (fun j k => Wz (ix2 j k)) (fun k => Bz (ix2 0 k)) (fun j k => Wh (ix2 j k))
          (fun k => Bh (ix2 0 k)) (fun k => Wl (ix2 k o)) := by
  unfold k0_pay1 Row.out Row.unit
  pointwise
  simp only [Row.ofBits_half]

end Cert.KernelIdealProof

end
-- ==== Proof.ArrayValue.lean ====
/-
  What the output array holds after the kernel, at the extended reals: at feature `o` and row `n` the kernel's formula
  on row `n` of `x`. Each grid point's block is that array read through the block, whatever the rows of `x` past the
  array's end hold, because a column of the block depends on its own row alone.
-/
module

public import proofs.«01_k».proof.Proof.BlockValue
public import proofs.«01_k».proof.Proof.Gen.KernelIdeal.Frame

@[expose] public section

noncomputable section

namespace Cert.KernelIdealProof

open Cert.KernelIdeal Cert.KernelIdeal.Gen
open Idealize.ShloMosaic Idealize.ShloMosaic.TcCoe

variable (m : (ℓ : Loc nD τ sig) → Buf (Elt Ideal) ℓ)

/-- The output array, feature by row, from the arrays as the region is entered. -/
def outT (c : Dev nD) : Vec Ideal S64x10000 .f32 := fun i =>
  Row.out (fun j => V m c main_arg0 (ix2 (i 1) j)) (fun j k => V m c main_arg3 (ix2 j k)) (fun k => V m c main_call0_v1 (ix2 0 k))
    (fun j k => V m c main_arg11 (ix2 j k)) (fun k => V m c main_call0_v3 (ix2 0 k)) (fun k => V m c main_arg15 (ix2 k (i 0)))

/-- The blocks' places and their parts inside the arrays: point `t` takes rows from `5120 t` on, of `x` and of the
    output the same number. -/
theorem index_x (t : Fin cfg0.N) : win0_0.index t 0 = t.val ∧ win0_0.index t 1 = 0 := by
  rcases fin_N0 t with rfl | rfl <;> decide +kernel
theorem index_out (t : Fin cfg0.N) : win0_6.index t 0 = 0 ∧ win0_6.index t 1 = t.val := by
  rcases fin_N0 t with rfl | rfl <;> decide +kernel
theorem size_x (t : Fin cfg0.N) : win0_0.xsize (grid0.coords t) 0 = min 5120 (10000 - 5120 * t.val)
    ∧ win0_0.xsize (grid0.coords t) 1 = 128 := by
  rcases fin_N0 t with rfl | rfl <;> decide +kernel
theorem size_out (t : Fin cfg0.N) : win0_6.xsize (grid0.coords t) 0 = 64
    ∧ win0_6.xsize (grid0.coords t) 1 = min 5120 (10000 - 5120 * t.val) := by
  rcases fin_N0 t with rfl | rfl <;> decide +kernel

/-- Row `r` of the block of `x`, inside the array, is row `5120 t + r` of `x`, whatever fills the rows past the end. -/
theorem x_row (c : Dev nD) (t : Fin cfg0.N) (d : Vec Ideal S5120x128 .f32) (r : Fin 5120) (n : Fin 10000)
    (hn : n.val = 5120 * t.val + r.val) (k : Fin 128) :
    win0_0.fill (grid0.coords t) d (iblk m c 0 t) (ix2 r k) = V m c main_arg0 (ix2 n k) := by
  have h0 : r.val < win0_0.xsize (grid0.coords t) 0 := by rw [(size_x t).1]; omega
  have h1 : k.val < win0_0.xsize (grid0.coords t) 1 := by rw [(size_x t).2]; exact k.isLt
  let y : (win0_0.xblock (grid0.coords t)).Idx := fun a => match a with
    | ⟨0, _⟩ => ⟨r.val, h0⟩
    | ⟨1, _⟩ => ⟨k.val, h1⟩
  have hy : (ix2 r k : S5120x128.Idx) = win0_0.xinj (grid0.coords t) y := funext fun a => match a with
    | ⟨0, _⟩ => rfl
    | ⟨1, _⟩ => rfl
  rw [hy, win0_0.fill_xinj]
  change V m c main_arg0 ((win0_0.rect t).emb y) = _
  congr 1
  funext a
  match a with
  | ⟨0, _⟩ =>
    refine Fin.ext ((win0_0.rect_emb_val t y 0).trans ?_)
    rw [(index_x t).1]; change t.val * 5120 + r.val = n.val; omega
  | ⟨1, _⟩ =>
    refine Fin.ext ((win0_0.rect_emb_val t y 1).trans ?_)
    rw [(index_x t).2]; change 0 * 128 + k.val = k.val; omega

/-- A window whose block index is zero on every axis reads its array at the index itself. -/
theorem emb_of_zero {G : Pipeline.Grid} (w : Pipeline.Window sig G) (t : Fin G.N)
    (hk : w.kind = .blocked) (h : ∀ a, w.index t a = 0) y (a : Fin w.shape.rank) : (((w.rect t).emb y a : Fin _) : Nat) = y a := by
  rw [w.rect_emb_val t y a hk, h a, Nat.zero_mul, Nat.zero_add]

/-- The block of W_xz is the whole array, at every point. -/
theorem whole_1 (c : Dev nD) (t : Fin cfg0.N) : (iblk m c 1 t : Vec Ideal S128x128 .f32) = V m c main_arg3 := funext fun y =>
  congrArg (V m c main_arg3) (funext fun a => Fin.ext (emb_of_zero win0_1 t rfl
    (by rcases fin_N0 t with rfl | rfl <;> decide +kernel) y a))

/-- The block of the gate's bias row is the whole array, at every point. -/
theorem whole_2 (c : Dev nD) (t : Fin cfg0.N) : (iblk m c 2 t : Vec Ideal S1x128 .f32) = V m c main_call0_v1 := funext fun y =>
  congrArg (V m c main_call0_v1) (funext fun a => Fin.ext (emb_of_zero win0_2 t rfl
    (by rcases fin_N0 t with rfl | rfl <;> decide +kernel) y a))

/-- The block of W_xh is the whole array, at every point. -/
theorem whole_3 (c : Dev nD) (t : Fin cfg0.N) : (iblk m c 3 t : Vec Ideal S128x128 .f32) = V m c main_arg11 := funext fun y =>
  congrArg (V m c main_arg11) (funext fun a => Fin.ext (emb_of_zero win0_3 t rfl
    (by rcases fin_N0 t with rfl | rfl <;> decide +kernel) y a))

/-- The block of the candidate's bias row is the whole array, at every point. -/
theorem whole_4 (c : Dev nD) (t : Fin cfg0.N) : (iblk m c 4 t : Vec Ideal S1x128 .f32) = V m c main_call0_v3 := funext fun y =>
  congrArg (V m c main_call0_v3) (funext fun a => Fin.ext (emb_of_zero win0_4 t rfl
    (by rcases fin_N0 t with rfl | rfl <;> decide +kernel) y a))

/-- The block of W_lin is the whole array, at every point. -/
theorem whole_5 (c : Dev nD) (t : Fin cfg0.N) : (iblk m c 5 t : Vec Ideal S128x64 .f32) = V m c main_arg15 := funext fun y =>
  congrArg (V m c main_arg15) (funext fun a => Fin.ext (emb_of_zero win0_5 t rfl
    (by rcases fin_N0 t with rfl | rfl <;> decide +kernel) y a))

/-- The block's column `r`, inside the array, is column `5120 t + r` of the output array. -/
theorem out_emb (t : Fin cfg0.N) (y : (win0_6.xblock (grid0.coords t)).Idx) (n : Fin 10000) (o : Fin 64)
    (hn : n.val = 5120 * t.val + (y 1).val) (ho : o.val = (y 0).val) :
    (win0_6.rect t).emb y = (ix2 o n : S64x10000.Idx) := funext fun a => match a with
  | ⟨0, _⟩ => Fin.ext ((win0_6.rect_emb_val t y 0).trans (by
      rw [(index_out t).1]; change 0 * 64 + (y 0).val = o.val; omega))
  | ⟨1, _⟩ => Fin.ext ((win0_6.rect_emb_val t y 1).trans (by
      rw [(index_out t).2]; change t.val * 5120 + (y 1).val = n.val; omega))

/-- What the body leaves in the output's buffer, on the columns inside the array, is the output array's block,
    whatever `d` filled the rows of `x` past the end. -/
theorem block_value (c : Dev nD) (t : Fin cfg0.N) (d : Vec Ideal S5120x128 .f32) :
    win0_6.cut (grid0.coords t) (k0_pay1 (win0_0.fill (grid0.coords t) d (iblk m c 0 t)) (iblk m c 1 t) (iblk m c 2 t)
      (iblk m c 3 t) (iblk m c 4 t) (iblk m c 5 t)) = (win0_6.blk t).view.read (Elt Ideal) (outT m c) := funext fun y => by
  have h0 : (y 0).val < 64 := (size_out t).1 ▸ (y 0).isLt
  have h1 : (y 1).val < min 5120 (10000 - 5120 * t.val) := (size_out t).2 ▸ (y 1).isLt
  let o : Fin 64 := ⟨(y 0).val, h0⟩
  let r : Fin 5120 := ⟨(y 1).val, by omega⟩
  let n : Fin 10000 := ⟨5120 * t.val + (y 1).val, by omega⟩
  have hy : win0_6.xinj (grid0.coords t) y = (ix2 o r : S64x5120.Idx) := funext fun a => match a with
    | ⟨0, _⟩ => rfl
    | ⟨1, _⟩ => rfl
  change k0_pay1 (F := Ideal) _ _ _ _ _ _ (win0_6.xinj (grid0.coords t) y) = outT m c ((win0_6.rect t).emb y)
  rw [hy, out_emb t y n o rfl rfl, payload_apply, whole_1, whole_2, whole_3, whole_4, whole_5]
  simp only [x_row m c t d r n rfl]
  rfl

/-- Every element of the output array lies in the block of the point `n / 5120`. -/
theorem cover (i : S64x10000.Idx) : ∃ t : Fin cfg0.N, (cfg0.win 6).flush t = true ∧ i ∈ (win0_6.blk t).view.set := by
  have hi0 : (i 0).val < 64 := (i 0).isLt
  have hi1 : (i 1).val < 10000 := (i 1).isLt
  let t : Fin cfg0.N := ⟨(i 1).val / 5120, by change _ < 2; omega⟩
  have ht : t.val = (i 1).val / 5120 := rfl
  refine ⟨t, flush0_6 t, ?_⟩
  let y : (win0_6.xblock (grid0.coords t)).Idx := fun a => match a with
    | ⟨0, _⟩ => ⟨(i 0).val, by change _ < win0_6.xsize (grid0.coords t) 0; rw [(size_out t).1]; exact hi0⟩
    | ⟨1, _⟩ => ⟨(i 1).val % 5120, by change _ < win0_6.xsize (grid0.coords t) 1; rw [(size_out t).2]; omega⟩
  have hy : (win0_6.rect t).emb y = i :=
    (out_emb t y (i 1) (i 0) (by change (i 1).val = 5120 * ((i 1).val / 5120) + (i 1).val % 5120; omega) rfl).trans
      (eq_ix2 i).symm
  rw [← hy]
  exact Finset.mem_map.mpr ⟨y, Finset.mem_univ _, rfl⟩

end Cert.KernelIdealProof

end
-- ==== Proof.IdealRun.lean ====
/-
  The kernel's run at the extended reals, with its value: the output array ends at `outT`.
-/
module

public import proofs.«01_k».proof.Proof.IdealBody
public import proofs.«01_k».proof.Proof.ArrayValue

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- A zero, used wherever a buffer's contents are not stated. -/
abbrev z : Elt Ideal .f32 := Scalar.ofBits (F := Ideal) .f32 0#32

/-- The proof data: the arrays as the region is entered; after a body each input's buffer at its block (that of `x`
    filled out past the array's end), the output's at the output array's block (filled out likewise). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => z) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => z) ((win0_6.blk t).view.read (Elt Ideal) (outT m c))
  Φ _ := Pipeline.ΦA spec0 c
  q _ := fullShare
  owed _ := 0

/-- `x`'s buffer as the body finds it: just fetched, its block on the rows inside the array and `d` past the end. -/
theorem before_x (c : Dev nD) (t : Fin cfg0.N) (d) :
    (dats m 0 c).before (0 : Fin 7) t d = win0_0.fill (grid0.coords t) d (iblk m c 0 t) := by
  unfold Dat.before; rw [if_pos (fetch0_0 t)]; rfl

/-- The body table's row at a point is the body at that point's buffers. -/
theorem row (t : Fin cfg0.N) : defs₀ (F := Ideal) .tc cfg0.body (cfg0.bodyArgs t (cfg0.slots t)) = bodyAt0 t := by
  unfold defs₀; rw [Defs.onTc_tc]

set_option maxHeartbeats 1000000 in
/-- The body at every point: on the columns inside the array it leaves the output array's block. -/
theorem obligation (c : Dev nD) :
    BodyObligationLoose (dats m 0 c) (defs₀ (F := Ideal)) variants () Set.univ := fun t => by
  rw [bigSep_W0, bigSep_W0, row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_x m c t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5]
  iapply (body_run (F := Ideal) c Set.univ (grid0.coords t) _ _ _ _ _ _ _ _ _ _ _ _ _ _
    (win0_0.fill (grid0.coords t) d0 (iblk m c 0 t)) (iblk m c 1 t) (iblk m c 2 t) (iblk m c 3 t) (iblk m c 4 t)
    (iblk m c 5 t) ((dats m 0 c).before 6 t d6) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => z) (iblk m c 0 t))))
    rw [win0_0.cut_fill]
  isplitl [H1]; · iexact H1
  isplitl [H2]; · iexact H2
  isplitl [H3]; · iexact H3
  isplitl [H4]; · iexact H4
  isplitl [H5]; · iexact H5
  iexists k0_pay1 (win0_0.fill (grid0.coords t) d0 (iblk m c 0 t)) (iblk m c 1 t) (iblk m c 2 t) (iblk m c 3 t) (iblk m c 4 t)
    (iblk m c 5 t)
  change _ ⊢ owns (c : Thread nD τ) (stage0_6 (cfg0.slots t 6)) fullShare (win0_6.fill (grid0.coords t)
    (k0_pay1 (win0_0.fill (grid0.coords t) d0 (iblk m c 0 t)) (iblk m c 1 t) (iblk m c 2 t) (iblk m c 3 t) (iblk m c 4 t)
      (iblk m c 5 t)) (win0_6.cut (grid0.coords t) (win0_6.fill (grid0.coords t) (fun _ => z)
        ((win0_6.blk t).view.read (Elt Ideal) (outT m c)))))
  rw [win0_6.cut_fill, ← block_value m c t d0, win0_6.fill_cut]

/-- The output array at the end: every block flushed is `outT`'s, and the blocks cover the array. -/
theorem array_end (c : Dev nD) : (dats m 0 c).arrAt 6 cfg0.N = outT m c :=
  (dats m 0 c).arrAt_eq_of_cover 6 (outT m c) (fun t _ => win0_6.cut_fill (grid0.coords t) _ _) cover

set_option backward.isDefEq.respectTransparency.types false in
/-- The run, at what the library's pipeline rule concludes of the arrays, and with every counter at zero. -/
theorem run : θ_run defs (onTc (τ := τ) (main (F := Ideal))) ⟨m, fun _ => 0, ρ⟩ (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ variants m ρ main
    (hbody := obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m variants) (hA := fun _ _ => rfl) (hΦ := fun _ _ => rfl) (Q' := _) (hQ' := fun _ h => h)

end Cert.KernelIdealProof

end
-- ==== Proof.ResultValue.lean ====
/-
  The program's result at the extended reals: the output array transposed, plus the final bias; read at row `n` and
  feature `o` it is the kernel's formula on row `n` of `x`, in the program's arguments.
-/
module

public import proofs.«01_k».proof.Proof.IdealRun
public import Idealize.ShloMosaic.Lib.Claim
public import Idealize.ShloMosaic.Lib.Pointwise

@[expose] public section

noncomputable section

namespace Cert.KernelIdealProof

open Cert.KernelIdeal Cert.KernelIdeal.Gen
open Idealize.ShloMosaic Idealize.ShloMosaic.TcCoe Idealize.ShloMosaic.Tactic

variable (m : (ℓ : Loc nD τ sig) → Buf (Elt Ideal) ℓ)

/-- The result array: the output array transposed, plus the final bias on every row. -/
def result (c : Dev nD) : Vec Ideal S10000x64 .f32 :=
  addf (F := Ideal) (φ := .f32) (transpose S10000x64 [1, 0] (outT m c) transposes_S64x10000_S10000x64_1_0)
    (broadcastInDim S10000x64 ![0, 1] bcast_S1x64_S10000x64_0_1 (broadcastInDim S1x64 ![1] bcast_S64_S1x64_1
      (V m c main_arg16)))

/-- What the operations after the kernel leave in the result buffer. -/
theorem after_result (c : Dev nD) :
    Pipeline.afterTail₀ cfgs (dats m) 0 (V0 m) [hostOps1] c main_v0 = result m c := by
  unfold Pipeline.afterTail₀ result
  simp only [hostOps1, List.flatten_cons, List.flatten_nil, List.append_nil]
  after_results
  rw [Pipeline.withArrays_of_ne _ c (V0 m c) _ main_arg16 (by exact (by decide : ∀ w, Pipeline.arrRef spec0 w ≠ main_arg16))]
  have e : Pipeline.withArrays (cfgs 0).spec c (V0 m c) (fun w => (dats m 0 c).arrAt w (cfgs 0).N)
      (Proc.devRef .tc main_call0_v4) = outT m c :=
    (Pipeline.withArrays_arr (cfgs 0).spec (by decide) c (V0 m c) _ 6).trans (array_end m c)
  rw [e]
  rfl

/-- Two biases added. -/
def biasSum (b h : Vec Ideal S128 .f32) : Fin 128 → EReal := fun k => b (ix1 k) + h (ix1 k)

/-- The result at row `n` and feature `o` as a function of the arguments it depends on. -/
def fused (x : Vec Ideal S10000x128 .f32) (wxz : Vec Ideal S128x128 .f32) (bxz bhz : Vec Ideal S128 .f32)
    (wxh : Vec Ideal S128x128 .f32) (bxh bhh : Vec Ideal S128 .f32) (wl : Vec Ideal S128x64 .f32) (bl : Vec Ideal S64 .f32)
    (n : Fin 10000) (o : Fin 64) : EReal :=
  Row.out (fun j => x (ix2 n j)) (fun j k => wxz (ix2 j k)) (biasSum bxz bhz) (fun j k => wxh (ix2 j k)) (biasSum bxh bhh)
    (fun k => wl (ix2 k o)) + bl (ix1 o)

/-- The gate's bias row as the kernel finds it: the two biases' sum. -/
theorem gate_bias (c : Dev nD) (k : Fin 128) : V m c main_call0_v1 (ix2 0 k)
    = biasSum (m ((c : Thread nD τ).loc main_arg4)) (m ((c : Thread nD τ).loc main_arg6)) k := by
  have e : V m c main_call0_v1 = shapeCast S1x128 (addf (F := Ideal) (φ := .f32) (m ((c : Thread nD τ).loc main_arg4))
      (m ((c : Thread nD τ).loc main_arg6))) shapeCasts_S128_S1x128 := by
    change StableHlo.after [hostOps0].flatten _ _ = _
    simp only [hostOps0, List.flatten_cons, List.flatten_nil, List.append_nil]
    after_results
    rfl
  rw [e]
  pointwise
  rfl

/-- The candidate's bias row as the kernel finds it. -/
theorem cand_bias (c : Dev nD) (k : Fin 128) : V m c main_call0_v3 (ix2 0 k)
    = biasSum (m ((c : Thread nD τ).loc main_arg12)) (m ((c : Thread nD τ).loc main_arg14)) k := by
  have e : V m c main_call0_v3 = shapeCast S1x128 (addf (F := Ideal) (φ := .f32) (m ((c : Thread nD τ).loc main_arg12))
      (m ((c : Thread nD τ).loc main_arg14))) shapeCasts_S128_S1x128 := by
    change StableHlo.after [hostOps0].flatten _ _ = _
    simp only [hostOps0, List.flatten_cons, List.flatten_nil, List.append_nil]
    after_results
    rfl
  rw [e]
  pointwise
  rfl

/-- The result at row `n` and feature `o`, in the program's arguments. -/
theorem result_apply (c : Dev nD) (n : Fin 10000) (o : Fin 64) : result m c (ix2 n o)
    = fused (m ((c : Thread nD τ).loc main_arg0)) (m ((c : Thread nD τ).loc main_arg3)) (m ((c : Thread nD τ).loc main_arg4))
        (m ((c : Thread nD τ).loc main_arg6)) (m ((c : Thread nD τ).loc main_arg11)) (m ((c : Thread nD τ).loc main_arg12))
        (m ((c : Thread nD τ).loc main_arg14)) (m ((c : Thread nD τ).loc main_arg15)) (m ((c : Thread nD τ).loc main_arg16))
        n o := by
  have e1 : (fun k : Fin 128 => V m c main_call0_v1 (ix2 0 k)) = biasSum _ _ := funext (gate_bias m c)
  have e2 : (fun k : Fin 128 => V m c main_call0_v3 (ix2 0 k)) = biasSum _ _ := funext (cand_bias m c)
  unfold result fused
  pointwise
  rw [← V_main_arg0 m c, ← V_main_arg3 m c, ← V_main_arg11 m c, ← V_main_arg15 m c, ← V_main_arg16 m c, ← e1, ← e2]
  rfl

end Cert.KernelIdealProof

end
-- ==== Proof.Agree.lean ====
/-
  The two programs' results agree: at every row and feature the reference's value is the kernel's.
-/
module

public import proofs.«01_k».proof.Proof.Equation
public import proofs.«01_k».proof.Proof.RefValue
public import proofs.«01_k».proof.Proof.ResultValue

@[expose] public section

noncomputable section

namespace Cert.Agree

open Cert.KernelIdeal
open Idealize.ShloMosaic Idealize.ShloMosaic.TcCoe

/-- On one set of arrays: the reference at row `n` and feature `o` is the kernel's formula there. The hidden state is
    zero, so the reset gate's parameters and the two recurrent weights the kernel does not read have no part. -/
theorem at_index (x : Vec Ideal S10000x128 .f32) (wxz : Vec Ideal S128x128 .f32) (bxz : Vec Ideal S128 .f32)
    (whz : Vec Ideal S128x128 .f32) (bhz : Vec Ideal S128 .f32) (wxr : Vec Ideal S128x128 .f32)
    (bxr : Vec Ideal S128 .f32) (whr : Vec Ideal S128x128 .f32) (bhr : Vec Ideal S128 .f32) (wxh : Vec Ideal S128x128 .f32)
    (bxh : Vec Ideal S128 .f32) (whh : Vec Ideal S128x128 .f32) (bhh : Vec Ideal S128 .f32) (wl : Vec Ideal S128x64 .f32) (bl : Vec Ideal S64 .f32)
    (n : Fin 10000) (o : Fin 64) :
    Cert.ReferenceIdeal.Read.val_main_v51 (F := Ideal) x wxz bxz whz bhz wxr bxr whr bhr wxh bxh whh bhh wl bl (ix2 n o)
      = KernelIdealProof.fused x wxz bxz bhz wxh bxh bhh wl bl n o := by
  rw [ReferenceProof.result_apply, ← Row.out_eq]
  rfl

variable (m : (ℓ : Loc nD τ sig) → Buf (Elt Ideal) ℓ)

/-- The reference on the kernel's arguments is the kernel's result array. -/
theorem result_eq (c : Dev nD) :
    Cert.ReferenceIdeal.Read.val_main_v51 (F := Ideal)
      (m ((c : Thread nD τ).loc main_arg0)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16))
      = KernelIdealProof.result m c := funext fun i => by
  rw [eq_ix2 i]
  exact (at_index _ _ _ _ _ _ _ _ _ _ _ _ _ _ _ _ _).trans (KernelIdealProof.result_apply m c _ _).symm

end Cert.Agree

end
-- ==== Proof.lean ====
/-
  The five claims, assembled. The kernel as it runs is safe at any float values (`KernelFrame`). At the extended reals
  its result array is known (`IdealRun`, `ResultValue`), the reference's too (`RefValue`), and the two are equal
  (`Equation`, `Agree`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The idealized kernel runs, leaves its arguments unchanged and every counter at zero. -/
theorem ideal_quiescent : letI := Cert.KernelIdeal.Gen.facts; Cert.quiescent_KernelIdeal := fun m g _ =>
  θ_run_with_sems
    (Cert.KernelIdeal.Gen.frame_of m g (Cert.KernelIdealProof.dats m) (fun _ _ => rfl)) (Cert.KernelIdealProof.run m g)

/-- The idealized reference runs, leaves its arguments unchanged and every counter at zero (it has none). -/
theorem reference_quiescent : letI := Cert.ReferenceIdeal.Gen.facts; Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The idealized kernel's run with its result: the array `result`. -/
theorem ideal_value (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem ((c.tc : Thread Cert.KernelIdeal.nD Cert.KernelIdeal.τ).loc Cert.KernelIdeal.main_v0)
          = Cert.KernelIdealProof.result m c :=
  (θ_run Cert.KernelIdeal.defs _ _).mono (fun _ h c =>
    ((h.1 c).2 Cert.KernelIdeal.main_v0 (Pipeline.mem_restRefs_of Cert.KernelIdeal.main_v0 (by decide) (by decide))).trans
      (Cert.KernelIdealProof.after_result m c)) (Cert.KernelIdealProof.run m g)

/-- From memories that agree on the arguments both end with the same result array. -/
theorem same_result : letI := Cert.KernelIdeal.Gen.facts; letI := Cert.ReferenceIdeal.Gen.facts
    Cert.algebraic_KernelIdeal_ReferenceIdeal := fun m g m' g' _ hargs => by
  refine ⟨fun c => Cert.KernelIdealProof.result m c, ?_, ?_⟩
  · exact (θ_run Cert.KernelIdeal.defs _ _).mono (fun _ h c => ⟨h.1 c, h.2.1 c⟩)
      (θ_run_and (ideal_value m g) (ideal_quiescent m g trivial))
  · refine (θ_run Cert.ReferenceIdeal.defs _ _).mono (fun r h c => ⟨(h c).1.trans ?_, (h c).2⟩)
      (Cert.ReferenceIdeal.Value.run m' g')
    obtain ⟨e0, _, _, e3, e4, e5, e6, e7, e8, e9, e10, e11, e12, e13, e14, e15, e16⟩ := hargs c
    refine (Cert.ReferenceIdeal.Read.val_main_v51_eq ..).trans ?_
    rw [e0, e3, e4, e5, e6, e7, e8, e9, e10, e11, e12, e13, e14, e15, e16]
    exact Cert.Agree.result_eq m c

theorem claim : Cert.Claim := ⟨Cert.Kernel.Gen.facts, Cert.KernelIdeal.Gen.facts, Cert.ReferenceIdeal.Gen.facts,
  fun m g _ => Cert.KernelProof.frame m g, ideal_quiescent, reference_quiescent, trivial, same_result⟩

end Cert.Proof

end
